-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x256 : Shape := ⟨3, ![1, 1024, 256]⟩
abbrev S32768x64 : Shape := ⟨2, ![32768, 64]⟩
abbrev S32768 : Shape := ⟨1, ![32768]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x100 : Shape := ⟨2, ![1, 100]⟩
abbrev S1 : Shape := ⟨1, ![1]⟩
abbrev S64x32768 : Shape := ⟨2, ![64, 32768]⟩
abbrev S4x1x8192 : Shape := ⟨3, ![4, 1, 8192]⟩
abbrev S_ : Shape := ⟨0, ![]⟩
abbrev S104x1 : Shape := ⟨2, ![104, 1]⟩
abbrev S100 : Shape := ⟨1, ![100]⟩
abbrev S2 : Shape := ⟨1, ![2]⟩
abbrev S1x256 : Shape := ⟨2, ![1, 256]⟩
abbrev S1x128 : Shape := ⟨2, ![1, 128]⟩
abbrev S1x64 : Shape := ⟨2, ![1, 64]⟩
abbrev S1x1 : Shape := ⟨2, ![1, 1]⟩
abbrev S64x8192 : Shape := ⟨2, ![64, 8192]⟩
abbrev S1x1x8192 : Shape := ⟨3, ![1, 1, 8192]⟩
abbrev S1024x64 : Shape := ⟨2, ![1024, 64]⟩
abbrev S104x1024 : Shape := ⟨2, ![104, 1024]⟩
abbrev S1024x256 : Shape := ⟨2, ![1024, 256]⟩
abbrev S1024x128 : Shape := ⟨2, ![1024, 128]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩
abbrev S1x1x1024 : Shape := ⟨3, ![1, 1, 1024]⟩
abbrev S104 : Shape := ⟨1, ![104]⟩
abbrev S1x104x1 : Shape := ⟨3, ![1, 104, 1]⟩
abbrev S1x1x1 : Shape := ⟨3, ![1, 1, 1]⟩

abbrev nBuf : Space → Nat
  | .hbm => 30
  | .vmem => 17
  | .smem => 0
  | _ => 0

abbrev bufTy : (tb : Table) → Fin (tcTables nBuf tb) → BufTy
  | .hbm, ⟨0, _⟩ => ⟨S1x1024x256, .f32⟩
  | .hbm, ⟨1, _⟩ => ⟨S32768x64, .f32⟩
  | .hbm, ⟨2, _⟩ => ⟨S32768, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x100, .f32⟩
  | .hbm, ⟨10, _⟩ => ⟨S1, .f32⟩
  | .hbm, ⟨11, _⟩ => ⟨S64x32768, .f32⟩
  | .hbm, ⟨12, _⟩ => ⟨S4x1x8192, .i32⟩
  | .hbm, ⟨13, _⟩ => ⟨S_, .f32⟩
  | .hbm, ⟨14, _⟩ => ⟨S104x1, .f32⟩
  | .hbm, ⟨15, _⟩ => ⟨S100, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S104x1, .f32⟩
  | .hbm, ⟨22, _⟩ => ⟨S1x256, .f32⟩
  | .hbm, ⟨23, _⟩ => ⟨S1x128, .f32⟩
  | .hbm, ⟨24, _⟩ => ⟨S1x64, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S_, .f32⟩
  | .local _ .vmem, ⟨0, _⟩ => ⟨S1x1024x256, .f32⟩
  | .local _ .vmem, ⟨1, _⟩ => ⟨S64x8192, .f32⟩
  | .local _ .vmem, ⟨2, _⟩ => ⟨S64x8192, .f32⟩
  | .local _ .vmem, ⟨3, _⟩ => ⟨S1x1x8192, .i32⟩
  | .local _ .vmem, ⟨4, _⟩ => ⟨S1x1x8192, .i32⟩
  | .local _ .vmem, ⟨5, _⟩ => ⟨S256x256, .f32⟩
  | .local _ .vmem, ⟨6, _⟩ => ⟨S1x256, .f32⟩
  | .local _ .vmem, ⟨7, _⟩ => ⟨S128x256, .f32⟩
  | .local _ .vmem, ⟨8, _⟩ => ⟨S1x128, .f32⟩
  | .local _ .vmem, ⟨9, _⟩ => ⟨S64x128, .f32⟩
  | .local _ .vmem, ⟨10, _⟩ => ⟨S1x64, .f32⟩
  | .local _ .vmem, ⟨11, _⟩ => ⟨S104x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1024x64, .f32⟩
  | .local _ .vmem, ⟨16, _⟩ => ⟨S104x1024, .f32⟩
  | _, _ => ⟨S1x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v121 : BitVec 1 := Scalar.cmpi .eq arg0 c3_i32
  let v122 : BitVec 32 := Scalar.extui v121
  let c0_i32_62 : BitVec 32 := 0#32
  let v123 : BitVec 1 := Scalar.cmpi .ne v122 c0_i32_62
  v123

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S104x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1x1024x256 : Shape := ⟨3, ![1, 1024, 256]⟩
abbrev S32768x64 : Shape := ⟨2, ![32768, 64]⟩
abbrev S32768 : Shape := ⟨1, ![32768]⟩
abbrev S256x256 : Shape := ⟨2, ![256, 256]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x100 : Shape := ⟨2, ![1, 100]⟩
abbrev S1 : Shape := ⟨1, ![1]⟩
abbrev S1024x256 : Shape := ⟨2, ![1024, 256]⟩
abbrev S1x256 : Shape := ⟨2, ![1, 256]⟩
abbrev S_ : Shape := ⟨0, ![]⟩
abbrev S256x128 : Shape := ⟨2, ![256, 128]⟩
abbrev S1024x128 : Shape := ⟨2, ![1024, 128]⟩
abbrev S1x128 : Shape := ⟨2, ![1, 128]⟩
abbrev S128x64 : Shape := ⟨2, ![128, 64]⟩
abbrev S1024x64 : Shape := ⟨2, ![1024, 64]⟩
abbrev S1x64 : Shape := ⟨2, ![1, 64]⟩
abbrev S64x32768 : Shape := ⟨2, ![64, 32768]⟩
abbrev S1024x32768 : Shape := ⟨2, ![1024, 32768]⟩
abbrev S100 : Shape := ⟨1, ![100]⟩
abbrev S1x32768 : Shape := ⟨2, ![1, 32768]⟩
abbrev S100x1 : Shape := ⟨2, ![100, 1]⟩
abbrev S100x32768 : Shape := ⟨2, ![100, 32768]⟩

abbrev nBuf : Space → Nat
  | .hbm => 69
  | .vmem => 0
  | .smem => 0
  | _ => 0

abbrev bufTy : (tb : Table) → Fin (tcTables nBuf tb) → BufTy
  | .hbm, ⟨0, _⟩ => ⟨S1x1024x256, .f32⟩
  | .hbm, ⟨1, _⟩ => ⟨S32768x64, .f32⟩
  | .hbm, ⟨2, _⟩ => ⟨S32768, .i32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x100, .f32⟩
  | .hbm, ⟨10, _⟩ => ⟨S1, .f32⟩
  | .hbm, ⟨11, _⟩ => ⟨S1024x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S256x128, .f32⟩
  | .hbm, ⟨21, _⟩ => ⟨S1024x128, .f32⟩
  | .hbm, ⟨22, _⟩ => ⟨S1x128, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S128x64, .f32⟩
  | .hbm, ⟨29, _⟩ => ⟨S1024x64, .f32⟩
  | .hbm, ⟨30, _⟩ => ⟨S1x64, .f32⟩
  | .hbm, ⟨31, _⟩ => ⟨S1024x64, .f32⟩
  | .hbm, ⟨32, _⟩ => ⟨S1024x64, .f32⟩
  | .hbm, ⟨33, _⟩ => ⟨S_, .f32⟩
  | .hbm, ⟨34, _⟩ => ⟨S1024x64, .f32⟩
  | .hbm, ⟨35, _⟩ => ⟨S1024x64, .f32⟩
  | .hbm, ⟨36, _⟩ => ⟨S64x32768, .f32⟩
  | .hbm, ⟨37, _⟩ => ⟨S1024x32768, .f32⟩
  | .hbm, ⟨38, _⟩ => ⟨S_, .f32⟩
  | .hbm, ⟨39, _⟩ => ⟨S32768, .f32⟩
  | .hbm, ⟨40, _⟩ => ⟨S100, .i32⟩
  | .hbm, ⟨41, _⟩ => ⟨S1x32768, .i32⟩
  | .hbm, ⟨42, _⟩ => ⟨S100x1, .i32⟩
  | .hbm, ⟨43, _⟩ => ⟨S100x32768, .i32⟩
  | .hbm, ⟨44, _⟩ => ⟨S100x32768, .i32⟩
  | .hbm, ⟨45, _⟩ => ⟨S100x32768, .i1⟩
  | .hbm, ⟨46, _⟩ => ⟨S1x32768, .f32⟩
  | .hbm, ⟨47, _⟩ => ⟨S_, .f32⟩
  | .hbm, ⟨48, _⟩ => ⟨S_, .f32⟩
  | .hbm, ⟨49, _⟩ => ⟨S100x32768, .f32⟩
  | .hbm, ⟨50, _⟩ => ⟨S100x32768, .f32⟩
  | .hbm, ⟨51, _⟩ => ⟨S100x32768, .f32⟩
  | .hbm, ⟨52, _⟩ => ⟨S_, .f32⟩
  | .hbm, ⟨53, _⟩ => ⟨S100, .f32⟩
  | .hbm, ⟨54, _⟩ => ⟨S100x1, .f32⟩
  | .hbm, ⟨55, _⟩ => ⟨S1, .f32⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | _, _ => ⟨S1x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_cst : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call2_cst : Ref sig .tc := ⟨.hbm, 33, rfl⟩
abbrev main_call2_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_0 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]
-- ==== Proof.Pass.lean ====
/-
  WHAT ONE GRID POINT LEAVES. The kernel's grid has four points; each brings in 8192 of the 32768 columns of `tr_bags`
  and their reference numbers, in eight slices of 1024. Two scratch buffers live across the points: the hidden layer
  `h`, computed at the first point and read afterwards, and the running maximum `agg`. This module names the new
  running maximum a point stores (`pass`) and proves that the generated contents of the scratch buffers and of the two
  results are that function of the point's input blocks and of what the point before left.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem

variable {F : FTy → Type} [FloatOps F]

/-- The running maximum after a point: from the hidden layer `h`, the point's columns `b`, their reference numbers `r`
    and the running maximum `acc` before it. -/
def pass (h : Vec F S1024x64 .f32) (b : Vec F S64x8192 .f32) (r : Vec F S1x1x8192 .i32) (acc : Vec F S104x1024 .f32) :
    Vec F S104x1024 .f32 :=
  k0_pay1
    (k0_pay9 h (iota .tc S104x1024 32 [0] iota_S104x1024_d0_w32)
      (k0_pay8 h (iota .tc S104x1024 32 [0] iota_S104x1024_d0_w32)
        (k0_pay6 h (View.ld b (Rect.unit ![0, 0] ![64, 1024] inb_S64x8192_S64x1024_0_0))
          (View.ld r (Rect.unit ![0, 0, 0] ![1, 1, 1024] inb_S1x1x8192_S1x1x1024_0_0_0))
          (View.ld b (Rect.unit ![0, 1024] ![64, 1024] inb_S64x8192_S64x1024_0_1024))
          (View.ld r (Rect.unit ![0, 0, 1024] ![1, 1, 1024] inb_S1x1x8192_S1x1x1024_0_0_1024)))
        (k0_pay7 h (View.ld b (Rect.unit ![0, 2048] ![64, 1024] inb_S64x8192_S64x1024_0_2048)))
        (View.ld r (Rect.unit ![0, 0, 2048] ![1, 1, 1024] inb_S1x1x8192_S1x1x1024_0_0_2048))
        (View.ld b (Rect.unit ![0, 3072] ![64, 1024] inb_S64x8192_S64x1024_0_3072))
        (View.ld r (Rect.unit ![0, 0, 3072] ![1, 1, 1024] inb_S1x1x8192_S1x1x1024_0_0_3072))
        (View.ld b (Rect.unit ![0, 4096] ![64, 1024] inb_S64x8192_S64x1024_0_4096))
        (View.ld r (Rect.unit ![0, 0, 4096] ![1, 1, 1024] inb_S1x1x8192_S1x1x1024_0_0_4096)))
      (View.ld b (Rect.unit ![0, 5120] ![64, 1024] inb_S64x8192_S64x1024_0_5120))
      (View.ld r (Rect.unit ![0, 0, 5120] ![1, 1, 1024] inb_S1x1x8192_S1x1x1024_0_0_5120))
      (View.ld b (Rect.unit ![0, 6144] ![64, 1024] inb_S64x8192_S64x1024_0_6144))
      (View.ld r (Rect.unit ![0, 0, 6144] ![1, 1, 1024] inb_S1x1x8192_S1x1x1024_0_0_6144)))
    (k0_pay10 h (View.ld b (Rect.unit ![0, 7168] ![64, 1024] inb_S64x8192_S64x1024_0_7168)))
    (k0_pay11 (iota .tc S104x1024 32 [0] iota_S104x1024_d0_w32)
      (View.ld r (Rect.unit ![0, 0, 7168] ![1, 1, 1024] inb_S1x1x8192_S1x1x1024_0_0_7168)))
    acc

variable (m : (ℓ : Loc nD τ sig) → Buf (Elt F) ℓ)

/-- The hidden layer, as a function of what the arguments and the host operations before the kernel leave at a point. -/
def hidden (c : Dev nD) (t : Fin cfg0.N) : Vec F S1024x64 .f32 :=
  k0_pay4 (iblk m c 0 t) (iblk m c 3 t) (iblk m c 4 t) (iblk m c 5 t) (iblk m c 6 t) (iblk m c 7 t) (iblk m c 8 t)

/-- The first point stores the hidden layer. -/
theorem hid_first (c : Dev nD) (t : Fin cfg0.N) (h0 : t.val % 4 = 0) (h1 : ¬ t.val % 4 = 3) :
    (outsAt0 m c t.val t.isLt).2.2.1 = hidden m c t := by
  rw [outsAt0_A m c t h0 h1]
  frame_out
  rfl

/-- The first point starts the running maximum at minus infinity. -/
theorem agg_first (c : Dev nD) (t : Fin cfg0.N) (h0 : t.val % 4 = 0) (h1 : ¬ t.val % 4 = 3) :
    (outsAt0 m c t.val t.isLt).2.2.2 = pass (hidden m c t) (iblk m c 1 t) (iblk m c 2 t) k0_pay5 := by
  rw [outsAt0_A m c t h0 h1]
  frame_open
  simp (disch := decide) only [↓ View.readCov_skip, ↓ View.readCov_cons_toLoadRect, ↓ View.readCov_fill]
  frame_out
  rfl

/-- A middle point keeps the hidden layer. -/
theorem hid_mid (c : Dev nD) (t : Fin cfg0.N) (h0 : ¬ t.val % 4 = 0) (h1 : ¬ t.val % 4 = 3) :
    (outsAt0 m c t.val t.isLt).2.2.1 = (outsAt0 m c (t.val - 1) (lt_of_le_of_lt (Nat.sub_le _ _) t.isLt)).2.2.1 := by
  rw [outsAt0_B m c t h0 h1]
  unfold sout0_B_0
  frame_out

/-- A middle point moves the running maximum on by one pass. -/
theorem agg_mid (c : Dev nD) (t : Fin cfg0.N) (h0 : ¬ t.val % 4 = 0) (h1 : ¬ t.val % 4 = 3) :
    (outsAt0 m c t.val t.isLt).2.2.2
      = pass (outsAt0 m c (t.val - 1) (lt_of_le_of_lt (Nat.sub_le _ _) t.isLt)).2.2.1 (iblk m c 1 t) (iblk m c 2 t)
          (outsAt0 m c (t.val - 1) (lt_of_le_of_lt (Nat.sub_le _ _) t.isLt)).2.2.2 := by
  rw [outsAt0_B m c t h0 h1]
  frame_out
  simp only [read_unread_whole]
  rfl

/-- The last point's first result: the score of the running maximum after the last pass. -/
theorem out_last (c : Dev nD) (t : Fin cfg0.N) (h0 : ¬ t.val % 4 = 0) (h1 : t.val % 4 = 3) :
    (outsAt0 m c t.val t.isLt).1
      = k0_pay2 (pass (outsAt0 m c (t.val - 1) (lt_of_le_of_lt (Nat.sub_le _ _) t.isLt)).2.2.1 (iblk m c 1 t) (iblk m c 2 t)
          (outsAt0 m c (t.val - 1) (lt_of_le_of_lt (Nat.sub_le _ _) t.isLt)).2.2.2) (iblk m c 9 t) (iblk m c 10 t) := by
  rw [outsAt0_C m c t h0 h1]
  frame_open
  simp (disch := decide) only [↓ View.readCov_skip, ↓ View.readCov_cons_toLoadRect, ↓ View.readCov_fill]
  frame_out
  simp only [read_unread_whole]
  rfl

/-- The last point's second result: whether that score is at least one half. -/
theorem hat_last (c : Dev nD) (t : Fin cfg0.N) (h0 : ¬ t.val % 4 = 0) (h1 : t.val % 4 = 3) :
    (outsAt0 m c t.val t.isLt).2.1
      = k0_pay3 (pass (outsAt0 m c (t.val - 1) (lt_of_le_of_lt (Nat.sub_le _ _) t.isLt)).2.2.1 (iblk m c 1 t) (iblk m c 2 t)
          (outsAt0 m c (t.val - 1) (lt_of_le_of_lt (Nat.sub_le _ _) t.isLt)).2.2.2) (iblk m c 9 t) (iblk m c 10 t) := by
  rw [outsAt0_C m c t h0 h1]
  frame_open
  simp (disch := decide) only [↓ View.readCov_skip, ↓ View.readCov_cons_toLoadRect, ↓ View.readCov_fill]
  frame_out
  simp only [read_unread_whole]
  rfl

end Cert.KernelIdeal.Val

end
-- ==== Proof.Score.lean ====
/-
  THE SCORE AS A FORMULA over the extended reals, in which the kernel's results and the reference's are both read: three
  dense layers with a relu, the similarity of every row with every column of `tr_bags`, the maximum of a column, the
  maximum over the columns of one reference, and the weighted sum of the hundred maxima.
-/
module

public import Idealize.ShloMosaic.Lib.Pointwise

@[expose] public section

noncomputable section

namespace Cert.Score

open Idealize.ShloMosaic

/-- The third layer at row `n`, unit `k`. -/
def layer (x : Fin 1024 → Fin 256 → EReal) (W1 : Fin 256 → Fin 256 → EReal) (b1 : Fin 256 → EReal)
    (W2 : Fin 128 → Fin 256 → EReal) (b2 : Fin 128 → EReal) (W3 : Fin 64 → Fin 128 → EReal) (b3 : Fin 64 → EReal)
    (n : Fin 1024) (k : Fin 64) : EReal :=
  max (∑ j, max (∑ i, max (∑ y, x n y * W1 i y + b1 i) 0 * W2 j i + b2 j) 0 * W3 k j + b3 k) 0

/-- The largest similarity of column `q` with a row of `h`. -/
def colMax {Q : Type} (h : Fin 1024 → Fin 64 → EReal) (B : Q → Fin 64 → EReal) (q : Q) : EReal :=
  Finset.univ.fold max ⊥ fun n => ∑ k, h n k * B q k

/-- What column `q` offers to the maximum of reference `s`: its own maximum if it belongs to `s`, else minus infinity. -/
def offer {Q : Type} (h : Fin 1024 → Fin 64 → EReal) (B : Q → Fin 64 → EReal) (r : Q → BitVec 32) (s : Nat) (q : Q) :
    EReal :=
  if r q = BitVec.ofNat 32 s then colMax h B q else ⊥

/-- The largest offer to reference `s` over all columns. -/
def segMax (h : Fin 1024 → Fin 64 → EReal) (B : Fin 32768 → Fin 64 → EReal) (r : Fin 32768 → BitVec 32) (s : Nat) : EReal :=
  ⨆ q, offer h B r s q

/-- The weighted sum of the hundred maxima, with its bias, through the sigmoid. -/
def prob (g : Fin 100 → EReal) (w : Fin 100 → EReal) (b : EReal) : EReal :=
  Ideal.logistic (∑ s : Fin 100, g s * w s + b)

/-- One if the score is at least one half, else zero. -/
def hat (p : EReal) : EReal := if ((1 / 2 : ℝ) : EReal) ≤ p then 1 else 0

/-- The word of minus infinity. -/
theorem ofBits_bot : Ideal.ofBits .f32 0xFF800000#32 = ⊥ := by
  simp [Ideal.ofBits, Ideal.ieee]

/-- The word of one half. -/
theorem ofBits_half : Ideal.ofBits .f32 0x3F000000#32 = ((1 / 2 : ℝ) : EReal) := by
  simp [Ideal.ofBits, Ideal.ieee, -EReal.coe_mul]
  norm_num

/-- A running maximum from minus infinity is a supremum. -/
theorem fold_max_eq_iSup {Q : Type} [Fintype Q] (f : Q → EReal) : Finset.univ.fold max ⊥ f = ⨆ q, f q := by
  rw [← Finset.sup_univ_eq_iSup]
  rfl

/-- A choice on the equality of two words. -/
theorem select_cmpi_eq (a b : BitVec 32) (x y : EReal) :
    Scalar.select (IntOp.cmpi .eq a b) x y = if a = b then x else y := by
  by_cases h : a = b
  · subst h
    simp [Scalar.select, IntOp.cmpi]
  · rw [if_neg h]
    have : (a == b) = false := by simpa using h
    simp [Scalar.select, IntOp.cmpi, this]

end Cert.Score

end
-- ==== Proof.PassAt.lean ====
/-
  ONE PASS AT AN ENTRY. Over the extended reals the running maximum after a pass, at reference `s` and lane `l`, is the
  larger of what was there and of the eight offers the pass makes at that lane, one from each slice of 1024 columns.
-/
module

public import proofs.«01_k».proof.Proof.Pass
public import proofs.«01_k».proof.Proof.Score

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pointwise

/-- What column `q` of a point offers to reference `s`, as the kernel writes it. -/
def bid (h : Vec Ideal S1024x64 .f32) (b : Vec Ideal S64x8192 .f32) (r : Vec Ideal S1x1x8192 .i32) (s : Nat) (q : Fin 8192) :
    EReal :=
  Scalar.select (IntOp.cmpi .eq (r (ix3 0 0 q)) (BitVec.ofNat 32 s))
    (Finset.univ.fold max (Ideal.ofBits .f32 0xFF800000#32) fun n : Fin 1024 => ∑ k : Fin 64, h (ix2 n k) * b (ix2 k q))
    (Ideal.ofBits .f32 0xFF800000#32)

/-- The largest of `f` at lane `l` of eight consecutive slices of 1024. -/
def oct (f : Fin 8192 → EReal) (l : Fin 1024) : EReal :=
  max (max (max (max (max (max (max (f ⟨l.val, by omega⟩) (f ⟨1024 + l.val, by omega⟩)) (f ⟨2048 + l.val, by omega⟩))
    (f ⟨3072 + l.val, by omega⟩)) (f ⟨4096 + l.val, by omega⟩)) (f ⟨5120 + l.val, by omega⟩)) (f ⟨6144 + l.val, by omega⟩))
    (f ⟨7168 + l.val, by omega⟩)

/-- A bound on the largest is a bound on every column whose number ends in that lane. -/
theorem oct_le_iff (f : Fin 8192 → EReal) (l : Fin 1024) (z : EReal) :
    oct f l ≤ z ↔ ∀ q : Fin 8192, q.val % 1024 = l.val → f q ≤ z := by
  unfold oct
  simp only [max_le_iff]
  constructor
  · rintro ⟨⟨⟨⟨⟨⟨⟨h0, h1⟩, h2⟩, h3⟩, h4⟩, h5⟩, h6⟩, h7⟩ q hq
    have hc : q.val = l.val ∨ q.val = 1024 + l.val ∨ q.val = 2048 + l.val ∨ q.val = 3072 + l.val ∨ q.val = 4096 + l.val
        ∨ q.val = 5120 + l.val ∨ q.val = 6144 + l.val ∨ q.val = 7168 + l.val := by omega
    rcases hc with h | h | h | h | h | h | h | h
    all_goals first
      | exact (congrArg f (Fin.ext h)).trans_le h0
      | exact (congrArg f (Fin.ext h)).trans_le h1
      | exact (congrArg f (Fin.ext h)).trans_le h2
      | exact (congrArg f (Fin.ext h)).trans_le h3
      | exact (congrArg f (Fin.ext h)).trans_le h4
      | exact (congrArg f (Fin.ext h)).trans_le h5
      | exact (congrArg f (Fin.ext h)).trans_le h6
      | exact (congrArg f (Fin.ext h)).trans_le h7
  · intro h
    refine ⟨⟨⟨⟨⟨⟨⟨?_, ?_⟩, ?_⟩, ?_⟩, ?_⟩, ?_⟩, ?_⟩, ?_⟩ <;> exact h _ (by dsimp only; omega)

/-- The running maximum after a pass, at an entry. -/
theorem pass_at (h : Vec Ideal S1024x64 .f32) (b : Vec Ideal S64x8192 .f32) (r : Vec Ideal S1x1x8192 .i32)
    (acc : Vec Ideal S104x1024 .f32) (s : Fin 104) (l : Fin 1024) :
    pass h b r acc (ix2 s l) = max (acc (ix2 s l)) (oct (bid h b r s.val) l) := by
  unfold pass k0_pay1 k0_pay9 k0_pay8 k0_pay6 k0_pay7 k0_pay10 k0_pay11
  pointwise
  rfl

/-- The kernel's offer is the formula's. -/
theorem bid_eq (h : Vec Ideal S1024x64 .f32) (b : Vec Ideal S64x8192 .f32) (r : Vec Ideal S1x1x8192 .i32) (s : Nat)
    (q : Fin 8192) :
    bid h b r s q
      = Score.offer (fun n k => h (ix2 n k)) (fun q k => b (ix2 k q)) (fun q => r (ix3 0 0 q)) s q := by
  unfold bid Score.offer Score.colMax
  rw [Score.select_cmpi_eq, Score.ofBits_bot]

/-- The running maximum starts at minus infinity. -/
theorem start_at (s : Fin 104) (l : Fin 1024) : k0_pay5 (F := Ideal) (ix2 s l) = (⊥ : EReal) := by
  unfold k0_pay5
  pointwise
  exact Score.ofBits_bot

end Cert.KernelIdeal.Val

end
-- ==== Proof.Layers.lean ====
/-
  THE HIDDEN LAYER the kernel computes at its first point: its value is three dense layers one after the other, each read
  at an entry as a sum of products, a bias and a relu.
-/
module

public import proofs.«01_k».proof.Proof.Gen.KernelIdeal.Skeleton
public import proofs.«01_k».proof.Proof.Score

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pointwise

/-- The kernel's first layer. -/
def dense1 (x : FVec Ideal S1x1024x256 .f32) (w : FVec Ideal S256x256 .f32) (b : FVec Ideal S1x256 .f32) :
    FVec Ideal S1024x256 .f32 :=
  maximumf (addf (matmul dot_S1024x256_S256x256_S1024x256_1_1_0_0_n_n none
      (shapeCast S1024x256 x shapeCasts_S1x1024x256_S1024x256) w (constant S1024x256 .f32 0x00000000#32))
    (broadcastTo S1024x256 (shapeCast S1x256 b shapeCasts_S1x256_S1x256) broadcasts_S1x256_S1024x256))
    (broadcast S1024x256 (Scalar.ofBits .f32 0x00000000#32 : Ideal .f32))

/-- The kernel's second layer. -/
def dense2 (x : FVec Ideal S1024x256 .f32) (w : FVec Ideal S128x256 .f32) (b : FVec Ideal S1x128 .f32) :
    FVec Ideal S1024x128 .f32 :=
  maximumf (addf (matmul dot_S1024x256_S128x256_S1024x128_1_1_0_0_n_n none x w (constant S1024x128 .f32 0x00000000#32))
    (broadcastTo S1024x128 (shapeCast S1x128 b shapeCasts_S1x128_S1x128) broadcasts_S1x128_S1024x128))
    (broadcast S1024x128 (Scalar.ofBits .f32 0x00000000#32 : Ideal .f32))

/-- The kernel's third layer. -/
def dense3 (x : FVec Ideal S1024x128 .f32) (w : FVec Ideal S64x128 .f32) (b : FVec Ideal S1x64 .f32) :
    FVec Ideal S1024x64 .f32 :=
  maximumf (addf (matmul dot_S1024x128_S64x128_S1024x64_1_1_0_0_n_n none x w (constant S1024x64 .f32 0x00000000#32))
    (broadcastTo S1024x64 (shapeCast S1x64 b shapeCasts_S1x64_S1x64) broadcasts_S1x64_S1024x64))
    (broadcast S1024x64 (Scalar.ofBits .f32 0x00000000#32 : Ideal .f32))

/-- The first layer at an index. -/
theorem dense1_at (x : FVec Ideal S1x1024x256 .f32) (w : FVec Ideal S256x256 .f32) (b : FVec Ideal S1x256 .f32)
    (n : Fin 1024) (i : Fin 256) :
    dense1 x w b (ix2 n i) = max (∑ y : Fin 256, x (ix3 0 n y) * w (ix2 i y) + b (ix2 0 i)) 0 := by
  unfold dense1
  pointwise

/-- The second layer at an index. -/
theorem dense2_at (x : FVec Ideal S1024x256 .f32) (w : FVec Ideal S128x256 .f32) (b : FVec Ideal S1x128 .f32)
    (n : Fin 1024) (i : Fin 128) :
    dense2 x w b (ix2 n i) = max (∑ y : Fin 256, x (ix2 n y) * w (ix2 i y) + b (ix2 0 i)) 0 := by
  unfold dense2
  pointwise

/-- The third layer at an index. -/
theorem dense3_at (x : FVec Ideal S1024x128 .f32) (w : FVec Ideal S64x128 .f32) (b : FVec Ideal S1x64 .f32)
    (n : Fin 1024) (i : Fin 64) :
    dense3 x w b (ix2 n i) = max (∑ y : Fin 128, x (ix2 n y) * w (ix2 i y) + b (ix2 0 i)) 0 := by
  unfold dense3
  pointwise

/-- The kernel's hidden layer is the three layers. -/
theorem layers_eq (x : Vec Ideal S1x1024x256 .f32) (w1 : Vec Ideal S256x256 .f32) (b1 : Vec Ideal S1x256 .f32)
    (w2 : Vec Ideal S128x256 .f32) (b2 : Vec Ideal S1x128 .f32) (w3 : Vec Ideal S64x128 .f32) (b3 : Vec Ideal S1x64 .f32) :
    k0_pay4 x w1 b1 w2 b2 w3 b3 = dense3 (dense2 (dense1 x w1 b1) w2 b2) w3 b3 :=
  shapeCast_self _ _

/-- The hidden layer the kernel computes is the formula's. -/
theorem layers_at (x : Vec Ideal S1x1024x256 .f32) (w1 : Vec Ideal S256x256 .f32) (b1 : Vec Ideal S1x256 .f32)
    (w2 : Vec Ideal S128x256 .f32) (b2 : Vec Ideal S1x128 .f32) (w3 : Vec Ideal S64x128 .f32) (b3 : Vec Ideal S1x64 .f32)
    (n : Fin 1024) (k : Fin 64) :
    k0_pay4 x w1 b1 w2 b2 w3 b3 (ix2 n k)
      = Score.layer (fun n y => x (ix3 0 n y)) (fun i y => w1 (ix2 i y)) (fun i => b1 (ix2 0 i)) (fun j i => w2 (ix2 j i))
          (fun j => b2 (ix2 0 j)) (fun k j => w3 (ix2 k j)) (fun k => b3 (ix2 0 k)) n k := by
  rw [layers_eq, dense3_at]
  simp only [dense2_at, dense1_at]
  rfl

end Cert.KernelIdeal.Val

end
-- ==== Proof.Tail.lean ====
/-
  WHAT THE LAST POINT MAKES OF THE RUNNING MAXIMUM: each row is reduced over its 1024 lanes, the hundred rows that name
  a reference are weighted and added, the four rows of padding are left out, and the sigmoid of the sum is the score.
-/
module

public import proofs.«01_k».proof.Proof.Gen.KernelIdeal.Skeleton
public import proofs.«01_k».proof.Proof.Score

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pointwise

/-- The rows below one hundred are the ones the kernel keeps. -/
theorem keep_row : ∀ s : Fin 104, IntOp.cmpi .slt (BitVec.ofNat 32 s.val) 100#32 = if s.val < 100 then 1#1 else 0#1 := by
  decide +kernel

/-- A sum over 104 rows of which the last four are left out is the sum over the first hundred. -/
theorem sum_rows (f : Fin 104 → EReal) :
    ∑ s : Fin 104, Scalar.select (IntOp.cmpi .slt (BitVec.ofNat 32 s.val) 100#32) (f s) 0
      = ∑ s : Fin 100, f ⟨s.val, by omega⟩ := by
  rw [show (∑ s : Fin 104, Scalar.select (IntOp.cmpi .slt (BitVec.ofNat 32 s.val) 100#32) (f s) 0)
      = ∑ s : Fin (100 + 4), (if s.val < 100 then f s else 0) from
    Finset.sum_congr rfl fun s _ => by rw [keep_row s]; by_cases h : s.val < 100 <;> simp [Scalar.select, h]]
  rw [Fin.sum_univ_add]
  simp [Fin.castAdd, Fin.natAdd, Fin.castLE]

/-- The kernel's first result: the rows below one hundred of the running maximum, each reduced over its lanes, weighted,
    added and sent through the sigmoid. -/
theorem score_at (g : Vec Ideal S104x1024 .f32) (w : Vec Ideal S104x1 .f32) (b : Vec Ideal S1x1 .f32) (i : S1x1.Idx) :
    k0_pay2 g w b i
      = Score.prob (fun s => ⨆ l : Fin 1024, g (ix2 ⟨s.val, by omega⟩ l)) (fun s => w (ix2 ⟨s.val, by omega⟩ 0)) (b i) := by
  unfold k0_pay2 Score.prob
  pointwise
  rw [← sum_rows fun s => (⨆ l : Fin 1024, g (ix2 s l)) * w (ix2 s 0)]
  simp only [Score.ofBits_bot, Score.fold_max_eq_iSup, Finset.univ_unique, Finset.sum_singleton]

/-- The kernel's second result. -/
theorem flag_at (g : Vec Ideal S104x1024 .f32) (w : Vec Ideal S104x1 .f32) (b : Vec Ideal S1x1 .f32) (i : S1x1.Idx) :
    k0_pay3 g w b i = Score.hat (k0_pay2 g w b i) := by
  unfold k0_pay3 Score.hat
  pointwise
  rw [Score.ofBits_half]

end Cert.KernelIdeal.Val

end
-- ==== Proof.Entry.lean ====
/-
  WHAT A POINT'S INPUT BLOCKS HOLD, as entries of the arguments: `tr_bags` transposed and cut into four runs of 8192
  columns, the reference numbers cut the same way, the last layer's weights set into a padded column, and every other
  argument whole.
-/
module

public import proofs.«01_k».proof.Proof.Gen.KernelIdeal.Frame
public import Idealize.ShloMosaic.Lib.Pipeline.ValueKit
public import Idealize.ShloMosaic.Lib.Claim
public import Idealize.ShloMosaic.Lib.Pointwise
public import Idealize.ShloMosaic.Lib.Routing.OpsOne

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pointwise

/-- Which block of its array each window holds at a point. -/
theorem idx : ∀ t : Fin cfg0.N, win0_0.index t = ![0, 0, 0] ∧ win0_1.index t = ![0, t.val] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] := by
  decide +kernel

variable (m : (ℓ : Loc nD τ sig) → Buf (Elt Ideal) ℓ) (c : Dev nD) (t : Fin cfg0.N)

/-- Every block of `x` is the whole of `x`. -/
theorem blk0_at (n : Fin 1024) (y : Fin 256) :
    iblk m c 0 t (ix3 0 n y) = m ((c.tc : Thread nD τ).loc main_arg0) (ix3 0 n y) := by
  blk_ext [iblk, V, idx t]

/-- Every block of `W1` is the whole of `W1`. -/
theorem blk3_at (i : Fin 256) (y : Fin 256) :
    iblk m c 3 t (ix2 i y) = m ((c.tc : Thread nD τ).loc main_arg3) (ix2 i y) := by
  blk_ext [iblk, V, idx t]

/-- Every block of `W2` is the whole of `W2`. -/
theorem blk5_at (i : Fin 128) (y : Fin 256) :
    iblk m c 5 t (ix2 i y) = m ((c.tc : Thread nD τ).loc main_arg5) (ix2 i y) := by
  blk_ext [iblk, V, idx t]

/-- Every block of `W3` is the whole of `W3`. -/
theorem blk7_at (i : Fin 64) (y : Fin 128) :
    iblk m c 7 t (ix2 i y) = m ((c.tc : Thread nD τ).loc main_arg7) (ix2 i y) := by
  blk_ext [iblk, V, idx t]

/-- The first bias as a row. -/
theorem entry8_eq : V m c main_v8 = shapeCast S1x256 (m ((c.tc : Thread nD τ).loc main_arg4)) shapeCasts_S256_S1x256 := by
  unfold V V0 hostOps0
  simp only [List.flatten_cons, List.flatten_nil, List.append_nil]
  after_results <;> rfl

/-- The second bias as a row. -/
theorem entry9_eq : V m c main_v9 = shapeCast S1x128 (m ((c.tc : Thread nD τ).loc main_arg6)) shapeCasts_S128_S1x128 := by
  unfold V V0 hostOps0
  simp only [List.flatten_cons, List.flatten_nil, List.append_nil]
  after_results <;> rfl

/-- The third bias as a row. -/
theorem entry10_eq : V m c main_v10 = shapeCast S1x64 (m ((c.tc : Thread nD τ).loc main_arg8)) shapeCasts_S64_S1x64 := by
  unfold V V0 hostOps0
  simp only [List.flatten_cons, List.flatten_nil, List.append_nil]
  after_results <;> rfl

/-- The last bias as a one by one array. -/
theorem entry11_eq : V m c main_v11 = shapeCast S1x1 (m ((c.tc : Thread nD τ).loc main_arg10)) shapeCasts_S1_S1x1 := by
  unfold V V0 hostOps0
  simp only [List.flatten_cons, List.flatten_nil, List.append_nil]
  after_results <;> rfl

/-- `tr_bags` transposed. -/
theorem entry0_eq : V m c main_v0 = transpose S64x32768 [1, 0] (m ((c.tc : Thread nD τ).loc main_arg1)) transposes_S32768x64_S64x32768_1_0 := by
  unfold V V0 hostOps0
  simp only [List.flatten_cons, List.flatten_nil, List.append_nil]
  after_results <;> rfl

/-- `tr_mask` cut into four rows. -/
theorem entry1_eq : V m c main_v1 = shapeCast S4x1x8192 (m ((c.tc : Thread nD τ).loc main_arg2)) shapeCasts_S32768_S4x1x8192 := by
  unfold V V0 hostOps0
  simp only [List.flatten_cons, List.flatten_nil, List.append_nil]
  after_results <;> rfl

/-- The first bias row at an index. -/
theorem entry8_at (i : Fin 256) : V m c main_v8 (ix2 0 i) = m ((c.tc : Thread nD τ).loc main_arg4) (ix1 i) := by
  rw [entry8_eq]
  pointwise

/-- The second bias row at an index. -/
theorem entry9_at (i : Fin 128) : V m c main_v9 (ix2 0 i) = m ((c.tc : Thread nD τ).loc main_arg6) (ix1 i) := by
  rw [entry9_eq]
  pointwise

/-- The third bias row at an index. -/
theorem entry10_at (i : Fin 64) : V m c main_v10 (ix2 0 i) = m ((c.tc : Thread nD τ).loc main_arg8) (ix1 i) := by
  rw [entry10_eq]
  pointwise

/-- The last bias at its index. -/
theorem entry11_at : V m c main_v11 (ix2 0 0) = m ((c.tc : Thread nD τ).loc main_arg10) (ix1 0) := by
  rw [entry11_eq]
  pointwise

/-- The transposed `tr_bags` at an index. -/
theorem entry0_at (k : Fin 64) (q : Fin 32768) :
    V m c main_v0 (ix2 k q) = m ((c.tc : Thread nD τ).loc main_arg1) (ix2 q k) := by
  rw [entry0_eq]
  pointwise

/-- Row `a` of the cut `tr_mask` holds words `8192 a` onwards. -/
theorem entry1_at (a : Fin 4) (q : Fin 8192) :
    V m c main_v1 (ix3 a 0 q) = m ((c.tc : Thread nD τ).loc main_arg2) (ix1 ⟨8192 * a.val + q.val, by omega⟩) := by
  rw [entry1_eq]
  refine shapeCast_apply _ _ _ _ ?_
  refine (Shape.rowMajor_val_one (d := ![32768]) _).trans (Eq.trans ?_ (Shape.rowMajor_val_three (d := ![4, 1, 8192]) _).symm)
  show 8192 * a.val + q.val = (a.val * 1 + 0) * 8192 + q.val
  omega

/-- The padded weights as the host operations write them. -/
theorem entry7_eq : V m c main_v7
    = Host.scatter scatter_S104x1_S2_S100_0_1_01_0 (fun _ b => b)
        (broadcastInDim S104x1 ![] bcast_S_S104x1 (constant S_ .f32 0x00000000#32 : FVec Ideal S_ .f32))
        (concatenate S2 0 [⟨S1, broadcastInDim S1 ![] bcast_S_S1 (constantI S_ 32 0#32)⟩,
          ⟨S1, broadcastInDim S1 ![] bcast_S_S1 (constantI S_ 32 0#32)⟩] concatenates_S1_S1_S2_d0)
        (shapeCast S100 (m ((c.tc : Thread nD τ).loc main_arg9)) shapeCasts_S1x100_S100) := by
  unfold V V0 hostOps0
  simp only [List.flatten_cons, List.flatten_nil, List.append_nil]
  after_results <;> rfl

/-- The two index words of that operation are zero. -/
theorem words_zero (j : Fin 2) : concatenate S2 0 [⟨S1, broadcastInDim S1 ![] bcast_S_S1 (constantI S_ 32 0#32)⟩,
    ⟨S1, broadcastInDim S1 ![] bcast_S_S1 (constantI S_ 32 0#32)⟩] concatenates_S1_S1_S2_d0 (ValueIdx.ix1 j) = 0#32 := by
  fin_cases j <;> rfl

/-- Row `s` of the padded weights is the weight of reference `s`. -/
theorem entry7_at (s : Fin 100) :
    V m c main_v7 (ix2 ⟨s.val, by omega⟩ 0) = m ((c.tc : Thread nD τ).loc main_arg9) (ix2 0 s) := by
  rw [entry7_eq]
  refine (Routing.scatter_column_signed _ (by decide) rfl rfl rfl _ _ _ _).trans ?_
  rw [words_zero, words_zero, if_pos (by
    refine ⟨rfl, ?_, ?_⟩
    · show (0 : Int) ≤ (s.val : Int)
      omega
    · show (s.val : Int) < 0 + (100 : Nat)
      omega)]
  refine Eq.trans (b := shapeCast S100 (m ((c.tc : Thread nD τ).loc main_arg9)) shapeCasts_S1x100_S100 (ix1 s)) ?_ ?_
  · refine congrArg _ ?_
    rw [← ix1_eq_valueIdx]
    refine congrArg ix1 (Fin.ext ?_)
    show ((s.val : Int) - 0).toNat % 100 = s.val
    omega
  · pointwise

/-- Every block of the first bias is the whole bias. -/
theorem blk4_at (i : Fin 256) : iblk m c 4 t (ix2 0 i) = m ((c.tc : Thread nD τ).loc main_arg4) (ix1 i) := by
  refine Eq.trans ?_ (entry8_at m c i)
  blk_ext [iblk, idx t]

/-- Every block of the second bias is the whole bias. -/
theorem blk6_at (i : Fin 128) : iblk m c 6 t (ix2 0 i) = m ((c.tc : Thread nD τ).loc main_arg6) (ix1 i) := by
  refine Eq.trans ?_ (entry9_at m c i)
  blk_ext [iblk, idx t]

/-- Every block of the third bias is the whole bias. -/
theorem blk8_at (i : Fin 64) : iblk m c 8 t (ix2 0 i) = m ((c.tc : Thread nD τ).loc main_arg8) (ix1 i) := by
  refine Eq.trans ?_ (entry10_at m c i)
  blk_ext [iblk, idx t]

/-- Every block of the last bias is that bias. -/
theorem blk10_at : iblk m c 10 t (ix2 0 0) = m ((c.tc : Thread nD τ).loc main_arg10) (ix1 0) := by
  refine Eq.trans ?_ (entry11_at m c)
  blk_ext [iblk, idx t]

/-- Point `t` reads columns `8192 t` onwards of `tr_bags`. -/
theorem blk1_at (k : Fin 64) (q : Fin 8192) (h : 8192 * t.val + q.val < 32768) :
    iblk m c 1 t (ix2 k q) = m ((c.tc : Thread nD τ).loc main_arg1) (ix2 ⟨8192 * t.val + q.val, h⟩ k) := by
  refine Eq.trans ?_ (entry0_at m c k ⟨8192 * t.val + q.val, h⟩)
  blk_ext [iblk, idx t]

/-- Point `t` reads words `8192 t` onwards of `tr_mask`. -/
theorem blk2_at (q : Fin 8192) (h : 8192 * t.val + q.val < 32768) :
    iblk m c 2 t (ix3 0 0 q) = m ((c.tc : Thread nD τ).loc main_arg2) (ix1 ⟨8192 * t.val + q.val, h⟩) := by
  have ht : t.val < 4 := by omega
  refine Eq.trans ?_ (entry1_at m c ⟨t.val, ht⟩ q)
  blk_ext [iblk, idx t]

/-- The first hundred rows of the padded weights are `W4`. -/
theorem blk9_at (s : Fin 100) :
    iblk m c 9 t (ix2 ⟨s.val, by omega⟩ 0) = m ((c.tc : Thread nD τ).loc main_arg9) (ix2 0 s) := by
  refine Eq.trans ?_ (entry7_at m c s)
  blk_ext [iblk, idx t]

end Cert.KernelIdeal.Val

end
-- ==== Proof.Sweep.lean ====
/-
  THE FOUR POINTS TOGETHER. The hidden layer stays what the first point stored; the running maximum at reference `s` and
  lane `l`, after point `n`, is the largest offer of the columns seen so far whose number ends in that lane. After the
  last point the maximum over the lanes is the maximum over all 32768 columns.
-/
module

public import proofs.«01_k».proof.Proof.PassAt
public import proofs.«01_k».proof.Proof.Layers
public import proofs.«01_k».proof.Proof.Tail
public import proofs.«01_k».proof.Proof.Entry

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

/-- The hidden layer of the arguments. -/
def hid (n : Fin 1024) (k : Fin 64) : EReal :=
  Score.layer (fun n y => m ((c.tc : Thread nD τ).loc main_arg0) (ix3 0 n y))
    (fun i y => m ((c.tc : Thread nD τ).loc main_arg3) (ix2 i y)) (fun i => m ((c.tc : Thread nD τ).loc main_arg4) (ix1 i))
    (fun j i => m ((c.tc : Thread nD τ).loc main_arg5) (ix2 j i)) (fun j => m ((c.tc : Thread nD τ).loc main_arg6) (ix1 j))
    (fun k j => m ((c.tc : Thread nD τ).loc main_arg7) (ix2 k j)) (fun k => m ((c.tc : Thread nD τ).loc main_arg8) (ix1 k)) n k

/-- The columns of `tr_bags`. -/
def bags (q : Fin 32768) (k : Fin 64) : EReal := m ((c.tc : Thread nD τ).loc main_arg1) (ix2 q k)

/-- The reference each column belongs to. -/
def refs (q : Fin 32768) : BitVec 32 := m ((c.tc : Thread nD τ).loc main_arg2) (ix1 q)

/-- What a point would compute as the hidden layer is the arguments' hidden layer. -/
theorem hidden_at (t : Fin cfg0.N) (n : Fin 1024) (k : Fin 64) : hidden m c t (ix2 n k) = hid m c n k := by
  unfold hidden hid
  rw [layers_at]
  simp only [blk0_at, blk3_at, blk4_at, blk5_at, blk6_at, blk7_at, blk8_at]

/-- The hidden layer a point before the last leaves is the arguments'. -/
theorem hid_at (n : Nat) (h : n < cfg0.N) (hn : n < 3) (a : Fin 1024) (k : Fin 64) :
    (outsAt0 m c n h).2.2.1 (ix2 a k) = hid m c a k := by
  induction n with
  | zero =>
    refine (congrFun (hid_first m c ⟨0, h⟩ (show 0 % 4 = 0 by decide) (show ¬ 0 % 4 = 3 by decide)) _).trans (hidden_at m c ⟨0, h⟩ a k)
  | succ n ih =>
    refine (congrFun (hid_mid m c ⟨n + 1, h⟩ (by show ¬ (n + 1) % 4 = 0; omega) (by show ¬ (n + 1) % 4 = 3; omega)) _).trans ?_
    exact ih (lt_of_le_of_lt (Nat.le_succ n) h) (by omega)

/-- One pass bounds the offers of the point's own columns. -/
theorem pass_le_iff (t : Fin cfg0.N) (ht : t.val < 4) (hh : Vec Ideal S1024x64 .f32) (hhid : ∀ a k, hh (ix2 a k) = hid m c a k)
    (acc : Vec Ideal S104x1024 .f32) (s : Fin 104) (l : Fin 1024) (z : EReal) :
    pass hh (iblk m c 1 t) (iblk m c 2 t) acc (ix2 s l) ≤ z
      ↔ acc (ix2 s l) ≤ z ∧ ∀ q : Fin 32768, 8192 * t.val ≤ q.val → q.val < 8192 * (t.val + 1) → q.val % 1024 = l.val →
          Score.offer (hid m c) (bags m c) (refs m c) s.val q ≤ z := by
  have hbid : ∀ (q : Fin 8192) (hq : 8192 * t.val + q.val < 32768), bid hh (iblk m c 1 t) (iblk m c 2 t) s.val q
      = Score.offer (hid m c) (bags m c) (refs m c) s.val ⟨8192 * t.val + q.val, hq⟩ := by
    intro q hq
    rw [bid_eq]
    unfold Score.offer Score.colMax
    simp only [hhid, blk1_at m c t _ q hq, blk2_at m c t q hq]
    rfl
  rw [pass_at, max_le_iff, oct_le_iff]
  refine and_congr_right fun _ => ⟨fun H q h1 h2 h3 => ?_, fun H q hq => ?_⟩
  · have hq : 8192 * t.val + (q.val - 8192 * t.val) < 32768 := by omega
    have := H ⟨q.val - 8192 * t.val, by omega⟩ (by dsimp only; omega)
    rw [hbid _ hq] at this
    rwa [show (⟨8192 * t.val + (q.val - 8192 * t.val), hq⟩ : Fin 32768) = q from Fin.ext (by dsimp only; omega)] at this
  · have hq' : 8192 * t.val + q.val < 32768 := by omega
    rw [hbid q hq']
    exact H ⟨8192 * t.val + q.val, hq'⟩ (by dsimp only; omega) (by dsimp only; omega) (by dsimp only; omega)

/-- The running maximum a point before the last leaves bounds the offers of the columns seen so far. -/
theorem agg_le_iff (n : Nat) (h : n < cfg0.N) (hn : n < 3) (s : Fin 104) (l : Fin 1024) (z : EReal) :
    (outsAt0 m c n h).2.2.2 (ix2 s l) ≤ z
      ↔ ∀ q : Fin 32768, q.val < 8192 * (n + 1) → q.val % 1024 = l.val →
          Score.offer (hid m c) (bags m c) (refs m c) s.val q ≤ z := by
  induction n with
  | zero =>
    rw [show (outsAt0 m c 0 h).2.2.2 = _ from agg_first m c ⟨0, h⟩ (show 0 % 4 = 0 by decide) (show ¬ 0 % 4 = 3 by decide),
      pass_le_iff m c ⟨0, h⟩ (show 0 < 4 by decide) _ (hidden_at m c _), start_at]
    exact ⟨fun H q h1 h2 => H.2 q (by simp) h1 h2, fun H => ⟨bot_le, fun q _ h1 h2 => H q h1 h2⟩⟩
  | succ n ih =>
    have hlt : n < cfg0.N := lt_of_le_of_lt (Nat.le_succ n) h
    have key : (outsAt0 m c (n + 1) h).2.2.2 = pass (outsAt0 m c n hlt).2.2.1 (iblk m c 1 ⟨n + 1, h⟩)
        (iblk m c 2 ⟨n + 1, h⟩) (outsAt0 m c n hlt).2.2.2 := agg_mid m c ⟨n + 1, h⟩ (by show ¬ (n + 1) % 4 = 0; omega)
        (by show ¬ (n + 1) % 4 = 3; omega)
    rw [key, pass_le_iff m c ⟨n + 1, h⟩ (by show n + 1 < 4; omega) _ (hid_at m c n hlt (by omega))]
    refine Iff.trans (and_congr_left fun _ => ih hlt (by omega)) ⟨fun H q h1 h2 => ?_, fun H => ⟨fun q h1 h2 => H q (by omega) h2, fun q _ h1 h2 => H q h1 h2⟩⟩
    by_cases hq : q.val < 8192 * (n + 1)
    · exact H.1 q hq h2
    · exact H.2 q (by dsimp only; omega) h1 h2

/-- After the last pass the maximum over the lanes is the maximum over all columns. -/
theorem lanes_eq (h2 : 2 < cfg0.N) (h3 : 3 < cfg0.N) (s : Fin 104) :
    (⨆ l : Fin 1024, pass (outsAt0 m c 2 h2).2.2.1 (iblk m c 1 ⟨3, h3⟩) (iblk m c 2 ⟨3, h3⟩) (outsAt0 m c 2 h2).2.2.2 (ix2 s l))
      = Score.segMax (hid m c) (bags m c) (refs m c) s.val := by
  refine eq_of_forall_ge_iff fun z => ?_
  unfold Score.segMax
  rw [iSup_le_iff, iSup_le_iff]
  simp only [pass_le_iff m c ⟨3, h3⟩ (show 3 < 4 by decide) _ (hid_at m c 2 h2 (by decide)), agg_le_iff m c 2 h2 (by decide)]
  refine ⟨fun H q => ?_, fun H l => ⟨fun q _ _ => H q, fun q _ _ _ => H q⟩⟩
  by_cases hq : q.val < 8192 * (2 + 1)
  · exact (H ⟨q.val % 1024, by omega⟩).1 q hq rfl
  · exact (H ⟨q.val % 1024, by omega⟩).2 q (by omega) (by omega) rfl

/-- The score of the arguments. -/
def score : EReal :=
  Score.prob (fun s => Score.segMax (hid m c) (bags m c) (refs m c) s.val)
    (fun s => m ((c.tc : Thread nD τ).loc main_arg9) (ix2 0 s)) (m ((c.tc : Thread nD τ).loc main_arg10) (ix1 0))

/-- The one index of a one by one array. -/
theorem idx_one (i : S1x1.Idx) : i = ix2 0 0 :=
  (eq_ix2 i).trans (congrArg₂ ix2 (Subsingleton.elim (α := Fin 1) _ _) (Subsingleton.elim (α := Fin 1) _ _))

/-- What the last point leaves as the first result. -/
theorem out_at (h3 : 3 < cfg0.N) (i : S1x1.Idx) : (outsAt0 m c 3 h3).1 i = score m c := by
  have h2 : 2 < cfg0.N := lt_of_le_of_lt (by decide) h3
  rw [show (outsAt0 m c 3 h3).1 = _ from out_last m c ⟨3, h3⟩ (show ¬ 3 % 4 = 0 by decide) (show 3 % 4 = 3 by decide), score_at, idx_one i, blk10_at]
  unfold score
  simp only [blk9_at]
  exact congrArg (fun g => Score.prob g _ _) (funext fun s => lanes_eq m c h2 h3 ⟨s.val, by omega⟩)

/-- What the last point leaves as the second result. -/
theorem hat_at (h3 : 3 < cfg0.N) (i : S1x1.Idx) : (outsAt0 m c 3 h3).2.1 i = Score.hat (score m c) := by
  rw [← out_at m c h3 i]
  rw [show (outsAt0 m c 3 h3).2.1 = _ from hat_last m c ⟨3, h3⟩ (show ¬ 3 % 4 = 0 by decide) (show 3 % 4 = 3 by decide), flag_at,
    show (outsAt0 m c 3 h3).1 = _ from out_last m c ⟨3, h3⟩ (show ¬ 3 % 4 = 0 by decide) (show 3 % 4 = 3 by decide)]

end Cert.KernelIdeal.Val

end
-- ==== Proof.KernelRun.lean ====
/-
  THE KERNEL'S RUN at the extended reals: the score and its flag end in the two results, the arguments unchanged.
-/
module

public import proofs.«01_k».proof.Proof.Sweep

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The first result's array after the region. -/
theorem arr_score (c : Dev nD) : (dats m 0 c).arrAt 11 cfg0.N = fun _ => score m c := by
  refine (dats m 0 c).arrAt_eq_of_after_last 11 t0_3 (by decide +kernel) _ fun j => ?_
  blk_simp
  rw [after0_11]
  exact out_at m c t0_3.isLt _

/-- The second result's array after the region. -/
theorem arr_flag (c : Dev nD) : (dats m 0 c).arrAt 12 cfg0.N = fun _ => Score.hat (score m c) := by
  refine (dats m 0 c).arrAt_eq_of_after_last 12 t0_3 (by decide +kernel) _ fun j => ?_
  blk_simp
  rw [after0_12]
  exact hat_at m c t0_3.isLt _

/-- The first result, read off the lines after the region. -/
theorem tail_score (c : Dev nD) : Pipeline.afterTail₀ cfgs (dats m) 0 (V0 m) [hostOps1] c main_v13 = fun _ => score m c := by
  unfold Pipeline.afterTail₀ hostOps1
  simp only [List.flatten_cons, List.flatten_nil, List.append_nil]
  after_results
  have key : Pipeline.withArrays (cfgs 0).spec c (V0 m c) (fun w => (dats m 0 c).arrAt w (cfgs 0).N) (Proc.devRef .tc main_v12_0)
      = (dats m 0 c).arrAt 11 cfg0.N :=
    Pipeline.Dat.withArrays_arrAt (dats m 0 c) (by decide) (V0 m c) (A_eq m c) 11
  rw [key, arr_score]
  rfl

/-- The second result, read off the lines after the region. -/
theorem tail_flag (c : Dev nD) :
    Pipeline.afterTail₀ cfgs (dats m) 0 (V0 m) [hostOps1] c main_v14 = fun _ => Score.hat (score m c) := by
  unfold Pipeline.afterTail₀ hostOps1
  simp only [List.flatten_cons, List.flatten_nil, List.append_nil]
  after_results
  have key : Pipeline.withArrays (cfgs 0).spec c (V0 m c) (fun w => (dats m 0 c).arrAt w (cfgs 0).N) (Proc.devRef .tc main_v12_1)
      = (dats m 0 c).arrAt 12 cfg0.N :=
    Pipeline.Dat.withArrays_arrAt (dats m 0 c) (by decide) (V0 m c) (A_eq m c) 12
  rw [key, arr_flag]
  rfl

/-- Every run ends with the score and its flag in the two results. -/
theorem results : θ_run defs (onTc (τ := τ) (main (F := Ideal))) ⟨m, fun _ => 0, ρ⟩ (fun r => ∀ c : Dev nD,
      r.2.mem ((c.tc : Thread nD τ).loc main_v13) = (fun _ => score m c)
      ∧ r.2.mem ((c.tc : Thread nD τ).loc main_v14) = (fun _ => Score.hat (score m c))) :=
  θ_run_mono (run_main m ρ) fun _ h c =>
    ⟨((h c).2 main_v13 (Pipeline.mem_restRefs_of main_v13 (by decide) (by decide))).trans (tail_score m c),
     ((h c).2 main_v14 (Pipeline.mem_restRefs_of main_v14 (by decide) (by decide))).trans (tail_flag m c)⟩

end Cert.KernelIdeal.Val

end
-- ==== Proof.Ref.lean ====
/-
  THE REFERENCE, STEP BY STEP. Its array operations are cut into five steps, each read at an index as a formula of the
  entries of its operands: one dense layer of each width, the column maxima, the maxima per reference, and the sigmoid of
  their weighted sum.
-/
module

public import proofs.«01_k».proof.Proof.Gen.ReferenceIdeal
public import proofs.«01_k».proof.Proof.Score

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.Pointwise

/-- The first layer. -/
def layer1 (x : FVec Ideal S1x1024x256 .f32) (w : FVec Ideal S256x256 .f32) (b : FVec Ideal S256 .f32) :
    FVec Ideal S1024x256 .f32 :=
  maximumf (addf (Host.dotGeneral dot_S1024x256_S256x256_S1024x256_1_0_0_1_n_n none
      (shapeCast S1024x256 x shapeCasts_S1x1024x256_S1024x256) (transpose S256x256 [1, 0] w transposes_S256x256_S256x256_1_0))
    (broadcastInDim S1024x256 ![0, 1] bcast_S1x256_S1024x256_0_1 (broadcastInDim S1x256 ![1] bcast_S256_S1x256_1 b)))
    (broadcastInDim S1024x256 ![] bcast_S_S1024x256 (constant S_ .f32 0x00000000#32))

/-- The first layer at an index. -/
theorem layer1_at (x : FVec Ideal S1x1024x256 .f32) (w : FVec Ideal S256x256 .f32) (b : FVec Ideal S256 .f32)
    (n : Fin 1024) (i : Fin 256) :
    layer1 x w b (ix2 n i) = max (∑ y : Fin 256, x (ix3 0 n y) * w (ix2 i y) + b (ix1 i)) 0 := by
  unfold layer1
  pointwise

/-- The second layer. -/
def layer2 (x : FVec Ideal S1024x256 .f32) (w : FVec Ideal S128x256 .f32) (b : FVec Ideal S128 .f32) :
    FVec Ideal S1024x128 .f32 :=
  maximumf (addf (Host.dotGeneral dot_S1024x256_S256x128_S1024x128_1_0_0_1_n_n none
      x (transpose S256x128 [1, 0] w transposes_S128x256_S256x128_1_0))
    (broadcastInDim S1024x128 ![0, 1] bcast_S1x128_S1024x128_0_1 (broadcastInDim S1x128 ![1] bcast_S128_S1x128_1 b)))
    (broadcastInDim S1024x128 ![] bcast_S_S1024x128 (constant S_ .f32 0x00000000#32))

/-- The second layer at an index. -/
theorem layer2_at (x : FVec Ideal S1024x256 .f32) (w : FVec Ideal S128x256 .f32) (b : FVec Ideal S128 .f32)
    (n : Fin 1024) (i : Fin 128) :
    layer2 x w b (ix2 n i) = max (∑ y : Fin 256, x (ix2 n y) * w (ix2 i y) + b (ix1 i)) 0 := by
  unfold layer2
  pointwise

/-- The third layer. -/
def layer3 (x : FVec Ideal S1024x128 .f32) (w : FVec Ideal S64x128 .f32) (b : FVec Ideal S64 .f32) :
    FVec Ideal S1024x64 .f32 :=
  maximumf (addf (Host.dotGeneral dot_S1024x128_S128x64_S1024x64_1_0_0_1_n_n none
      x (transpose S128x64 [1, 0] w transposes_S64x128_S128x64_1_0))
    (broadcastInDim S1024x64 ![0, 1] bcast_S1x64_S1024x64_0_1 (broadcastInDim S1x64 ![1] bcast_S64_S1x64_1 b)))
    (broadcastInDim S1024x64 ![] bcast_S_S1024x64 (constant S_ .f32 0x00000000#32))

/-- The third layer at an index. -/
theorem layer3_at (x : FVec Ideal S1024x128 .f32) (w : FVec Ideal S64x128 .f32) (b : FVec Ideal S64 .f32)
    (n : Fin 1024) (i : Fin 64) :
    layer3 x w b (ix2 n i) = max (∑ y : Fin 128, x (ix2 n y) * w (ix2 i y) + b (ix1 i)) 0 := by
  unfold layer3
  pointwise

/-- The column maxima of the similarities. -/
def cols (h : FVec Ideal S1024x64 .f32) (B : FVec Ideal S32768x64 .f32) : FVec Ideal S32768 .f32 :=
  Host.reduce FloatOps.maximumf (Host.dotGeneral dot_S1024x64_S64x32768_S1024x32768_1_0_0_1_n_n none h
      (transpose S64x32768 [1, 0] B transposes_S32768x64_S64x32768_1_0))
    (constant S_ .f32 0xFF800000#32) reducesTo_S1024x32768_S32768_d0 h_S_

/-- The column maxima at an index. -/
theorem cols_at (h : FVec Ideal S1024x64 .f32) (B : FVec Ideal S32768x64 .f32) (q : Fin 32768) :
    cols h B (ix1 q)
      = Finset.univ.fold max (Ideal.ofBits .f32 0xFF800000#32) fun n : Fin 1024 => ∑ k : Fin 64, h (ix2 n k) * B (ix2 q k) := by
  unfold cols
  pointwise

/-- The maxima per reference, of columns `v` labelled `r`. -/
def segs (v : FVec Ideal S32768 .f32) (r : IVec S32768 32) : FVec Ideal S100 .f32 :=
  Host.reduce FloatOps.maximumf
    (select (cmpi .eq (broadcastInDim S100x32768 ![0, 1] bcast_S1x32768_S100x32768_0_1 (broadcastInDim S1x32768 ![1] bcast_S32768_S1x32768_1 r))
        (broadcastInDim S100x32768 ![0, 1] bcast_S100x1_S100x32768_0_1 (broadcastInDim S100x1 ![0] bcast_S100_S100x1_0 (iotaInDim S100 32 0))))
      (broadcastInDim S100x32768 ![0, 1] bcast_S1x32768_S100x32768_0_1 (broadcastInDim S1x32768 ![1] bcast_S32768_S1x32768_1 v))
      (broadcastInDim S100x32768 ![] bcast_S_S100x32768 (constant S_ .f32 0xFF800000#32)))
    (constant S_ .f32 0xFF800000#32) reducesTo_S100x32768_S100_d1 h_S_

/-- The maxima per reference at an index. -/
theorem segs_at (v : FVec Ideal S32768 .f32) (r : IVec S32768 32) (s : Fin 100) :
    segs v r (ix1 s)
      = Finset.univ.fold max (Ideal.ofBits .f32 0xFF800000#32) fun q : Fin 32768 =>
          Scalar.select (IntOp.cmpi .eq (r (ix1 q)) (BitVec.ofNat 32 s.val)) (v (ix1 q)) (Ideal.ofBits .f32 0xFF800000#32) := by
  unfold segs
  pointwise

/-- The sigmoid of the weighted sum. -/
def score (g : FVec Ideal S100 .f32) (w : FVec Ideal S1x100 .f32) (b : FVec Ideal S1 .f32) : FVec Ideal S_ .f32 :=
  shapeCast S_ (Host.divf (broadcastInDim S1 ![] bcast_S_S1 (constant S_ .f32 0x3F800000#32))
    (addf (broadcastInDim S1 ![] bcast_S_S1 (constant S_ .f32 0x3F800000#32))
      (Host.exp (Host.negf (addf (Host.dotGeneral dot_S100_S100x1_S1_0_0_n_1_n_n none g
        (transpose S100x1 [1, 0] w transposes_S1x100_S100x1_1_0)) b))))) shapeCasts_S1_S_

/-- The sigmoid of the weighted sum, at its index. -/
theorem score_at (g : FVec Ideal S100 .f32) (w : FVec Ideal S1x100 .f32) (b : FVec Ideal S1 .f32) (i : S_.Idx) :
    score g w b i = Ideal.logistic (∑ s : Fin 100, g (ix1 s) * w (ix2 0 s) + b (ix1 0)) := by
  unfold score
  pointwise
  rfl

/-- The comparison with one half, as a number. -/
theorem flag_at (p : FVec Ideal S_ .f32) (i : S_.Idx) :
    (uitofp .f32 (cmpf .oge p (constant S_ .f32 0x3F000000#32)) : FVec Ideal S_ .f32) i = Score.hat (p i) := by
  pointwise
  rw [Score.ofBits_half]
  unfold Score.hat
  by_cases h : ((1 / 2 : ℝ) : EReal) ≤ p i
  · rw [if_pos h, decide_eq_true h]
    show (((1#1 : BitVec 1).toNat : ℝ) : EReal) = 1
    simp
  · rw [if_neg h, decide_eq_false h]
    show (((0#1 : BitVec 1).toNat : ℝ) : EReal) = 0
    simp

end Cert.ReferenceIdeal.Val

end
-- ==== Proof.RefRun.lean ====
/-
  THE REFERENCE'S RUN at the extended reals: its five steps composed are the score formula of its arguments, and its two
  results end at that score and its flag, the arguments unchanged.
-/
module

public import proofs.«01_k».proof.Proof.Gen.ReferenceIdeal.Run
public import proofs.«01_k».proof.Proof.Ref
public import Idealize.ShloMosaic.Lib.Claim

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Idealize.ShloMosaic.Pointwise

/-- The three layers are the formula's third layer. -/
theorem layers_at (x : FVec Ideal S1x1024x256 .f32) (w1 : FVec Ideal S256x256 .f32) (b1 : FVec Ideal S256 .f32)
    (w2 : FVec Ideal S128x256 .f32) (b2 : FVec Ideal S128 .f32) (w3 : FVec Ideal S64x128 .f32) (b3 : FVec Ideal S64 .f32)
    (n : Fin 1024) (k : Fin 64) :
    layer3 (layer2 (layer1 x w1 b1) w2 b2) w3 b3 (ix2 n k)
      = Score.layer (fun n y => x (ix3 0 n y)) (fun i y => w1 (ix2 i y)) (fun i => b1 (ix1 i)) (fun j i => w2 (ix2 j i))
          (fun j => b2 (ix1 j)) (fun k j => w3 (ix2 k j)) (fun k => b3 (ix1 k)) n k := by
  simp only [layer3_at, layer2_at, layer1_at, Score.layer]

/-- The maxima per reference are the formula's. -/
theorem segs_cols_at (h : FVec Ideal S1024x64 .f32) (B : FVec Ideal S32768x64 .f32) (r : IVec S32768 32) (s : Fin 100) :
    segs (cols h B) r (ix1 s)
      = Score.segMax (fun n k => h (ix2 n k)) (fun q k => B (ix2 q k)) (fun q => r (ix1 q)) s.val := by
  rw [segs_at, Score.ofBits_bot, Score.fold_max_eq_iSup]
  simp only [cols_at, Score.ofBits_bot, Score.select_cmpi_eq, Score.segMax, Score.offer, Score.colMax]

/-- The score of the arguments. -/
def result (x : FVec Ideal S1x1024x256 .f32) (B : FVec Ideal S32768x64 .f32) (r : IVec S32768 32)
    (w1 : FVec Ideal S256x256 .f32) (b1 : FVec Ideal S256 .f32) (w2 : FVec Ideal S128x256 .f32) (b2 : FVec Ideal S128 .f32)
    (w3 : FVec Ideal S64x128 .f32) (b3 : FVec Ideal S64 .f32) (w4 : FVec Ideal S1x100 .f32) (b4 : FVec Ideal S1 .f32) : EReal :=
  Score.prob
    (fun s => Score.segMax
      (Score.layer (fun n y => x (ix3 0 n y)) (fun i y => w1 (ix2 i y)) (fun i => b1 (ix1 i)) (fun j i => w2 (ix2 j i))
        (fun j => b2 (ix1 j)) (fun k j => w3 (ix2 k j)) (fun k => b3 (ix1 k)))
      (fun q k => B (ix2 q k)) (fun q => r (ix1 q)) s.val)
    (fun s => w4 (ix2 0 s)) (b4 (ix1 0))

/-- The five steps composed are the score. -/
theorem steps_at (x : FVec Ideal S1x1024x256 .f32) (B : FVec Ideal S32768x64 .f32) (r : IVec S32768 32)
    (w1 : FVec Ideal S256x256 .f32) (b1 : FVec Ideal S256 .f32) (w2 : FVec Ideal S128x256 .f32) (b2 : FVec Ideal S128 .f32)
    (w3 : FVec Ideal S64x128 .f32) (b3 : FVec Ideal S64 .f32) (w4 : FVec Ideal S1x100 .f32) (b4 : FVec Ideal S1 .f32)
    (i : S_.Idx) :
    score (segs (cols (layer3 (layer2 (layer1 x w1 b1) w2 b2) w3 b3) B) r) w4 b4 i = result x B r w1 b1 w2 b2 w3 b3 w4 b4 := by
  rw [score_at]
  simp only [segs_cols_at, layers_at]
  rfl

variable (m : (ℓ : Loc nD τ sig) → Buf (Elt Ideal) ℓ) (ρ : Dev nD → PrngReg)

/-- The score of the arguments in the memory. -/
def resultOf (c : Dev nD) : EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The five steps applied to the arguments in the memory. -/
def stepsOf (c : Dev nD) : FVec Ideal S_ .f32 :=
  score (segs (cols (layer3 (layer2 (layer1 (m ((c.tc : Thread nD τ).loc main_arg0)) (m ((c.tc : Thread nD τ).loc main_arg3))
      (m ((c.tc : Thread nD τ).loc main_arg4))) (m ((c.tc : Thread nD τ).loc main_arg5)) (m ((c.tc : Thread nD τ).loc main_arg6)))
      (m ((c.tc : Thread nD τ).loc main_arg7)) (m ((c.tc : Thread nD τ).loc main_arg8))) (m ((c.tc : Thread nD τ).loc main_arg1)))
      (m ((c.tc : Thread nD τ).loc main_arg2))) (m ((c.tc : Thread nD τ).loc main_arg9)) (m ((c.tc : Thread nD τ).loc main_arg10))

/-- The steps on the memory's arguments give their score. -/
theorem stepsOf_eq (c : Dev nD) : stepsOf m c = fun _ => resultOf m c :=
  funext fun i => steps_at _ _ _ _ _ _ _ _ _ _ _ i

/-- Comparing the steps' value with one half gives the score's flag. -/
theorem flagOf_eq (c : Dev nD) :
    (uitofp .f32 (cmpf .oge (stepsOf m c) (constant S_ .f32 0x3F000000#32)) : FVec Ideal S_ .f32)
      = fun _ => Score.hat (resultOf m c) :=
  funext fun i => (flag_at (stepsOf m c) i).trans (by rw [stepsOf_eq])

/-- Every run ends with the score and its flag in the two results. -/
theorem results : θ_run defs (onTc (τ := τ) (main (F := Ideal))) ⟨m, fun _ => 0, ρ⟩ (fun r => ∀ c : Dev nD,
      r.2.mem ((c.tc : Thread nD τ).loc main_v40) = (fun _ => resultOf m c)
      ∧ r.2.mem ((c.tc : Thread nD τ).loc main_v42) = (fun _ => Score.hat (resultOf m c))) :=
  θ_run_mono (Value.run m ρ) fun _ h c =>
    ⟨(h c).1.trans (stepsOf_eq m c), (h c).2.1.trans (flagOf_eq m c)⟩

end Cert.ReferenceIdeal.Val

end
-- ==== Proof.lean ====
/-
  THE CERTIFICATE, assembled: the frames of the kernel, of its idealization and of the reference, and the equality of the
  kernel's two results with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's score, at a memory whose arguments are the kernel's, is the kernel's score. -/
theorem score_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10)) :
    ReferenceIdeal.Val.resultOf m' c = KernelIdeal.Val.score m c := by
  unfold ReferenceIdeal.Val.resultOf
  rw [h0, h1, h2, h3, h4, h5, h6, h7, h8, h9, h10]
  rfl

/-- The reference runs, its arguments unchanged, and every counter ends at zero. -/
theorem reference_frame : Cert.quiescent_ReferenceIdeal (hReferenceIdeal := Cert.ReferenceIdeal.Gen.facts) := by
  intro m g _
  exact θ_run_mono (ReferenceIdeal.Value.run m g) fun r h =>
    ⟨fun c => (h c).2.2, sem_eq_zero_of_no_sems (by decide) r.2⟩

/-- The kernel and the reference end with equal results. -/
theorem results_eq : Cert.algebraic_KernelIdeal_ReferenceIdeal (hKernelIdeal := Cert.KernelIdeal.Gen.facts)
    (hReferenceIdeal := Cert.ReferenceIdeal.Gen.facts) := by
  intro m g m' g' _ hagree
  refine ⟨fun c => fun _ => KernelIdeal.Val.score m c, fun c => fun _ => Score.hat (KernelIdeal.Val.score m c), ?_, ?_⟩
  · exact θ_run_mono (θ_run_and (KernelIdeal.Val.results m g) (KernelIdeal.Gen.unchanged m g)) fun _ h c =>
      ⟨(h.1 c).1, (h.1 c).2, h.2 c⟩
  · refine θ_run_mono (θ_run_and (ReferenceIdeal.Val.results m' g') (ReferenceIdeal.Value.run m' g')) fun _ h c => ?_
    obtain ⟨h0, h1, h2, h3, h4, h5, h6, h7, h8, h9, h10⟩ := hagree c
    have e := score_eq m m' c h0 h1 h2 h3 h4 h5 h6 h7 h8 h9 h10
    exact ⟨(h.1 c).1.trans (funext fun _ => e), (h.1 c).2.trans (funext fun _ => congrArg Score.hat e), (h.2 c).2.2⟩

/-- The certificate: the three frames, the idealization, and the equality of results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, results_eq⟩

end Cert.Proof

end
